-- ==== Defs.lean ====
def Pre_Kernel [hPre_lengths : Cert.Pre_lengths.Facts] (m : (ℓ : Loc Cert.Kernel.nD Cert.Kernel.τ Cert.Kernel.sig) → Buf (Elt Bits) ℓ) : Prop :=
  ∀ c : Dev Cert.Kernel.nD,
    (Cert.Pre_lengths.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_lengths : Cert.Pre_lengths.Facts] (m : (ℓ : Loc Cert.KernelIdeal.nD Cert.KernelIdeal.τ Cert.KernelIdeal.sig) → Buf (Elt Ideal) ℓ) : Prop :=
  ∀ c : Dev Cert.KernelIdeal.nD,
    (Cert.Pre_lengths.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths [hPre_lengths : Cert.Pre_lengths.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_lengths : Cert.Pre_lengths.Facts] (m : (ℓ : Loc Cert.Reference.nD Cert.Reference.τ Cert.Reference.sig) → Buf (Elt Bits) ℓ) : Prop :=
  ∀ c : Dev Cert.Reference.nD,
    (Cert.Pre_lengths.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_lengths : Cert.Pre_lengths.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_lengths : Cert.Pre_lengths.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_lengths [hReferenceIdeal : Cert.ReferenceIdeal.Facts] [hPre_lengths : Cert.Pre_lengths.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_lengths : Cert.Pre_lengths.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_lengths : Cert.Pre_lengths.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_lengths : Cert.Pre_lengths.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_lengths : Cert.Pre_lengths.Facts),
    quiescent_Kernel (hKernel := hKernel) (hPre_lengths := hPre_lengths)
    ∧ quiescent_KernelIdeal (hKernelIdeal := hKernelIdeal) (hPre_lengths := hPre_lengths)
    ∧ quiescent_ReferenceIdeal (hReferenceIdeal := hReferenceIdeal)
    ∧ quiescent_ReferenceIdeal_pre_lengths (hReferenceIdeal := hReferenceIdeal) (hPre_lengths := hPre_lengths)
    ∧ quiescent_Reference (hReference := hReference) (hPre_lengths := hPre_lengths)
    ∧ preserves_Kernel_KernelIdeal
    ∧ algebraic_KernelIdeal_ReferenceIdeal (hKernelIdeal := hKernelIdeal) (hReferenceIdeal := hReferenceIdeal) (hPre_lengths := hPre_lengths)
    ∧ bitexact_Kernel_Reference (hKernel := hKernel) (hReference := hReference) (hPre_lengths := hPre_lengths)
-- ==== Pre_lengths.lean ====
abbrev S16x4096x1024 : Shape := ⟨3, ![16, 4096, 1024]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x4096x1024 .f32) (main_arg1 : IVec S16 32) : IVec S_ 1 :=
  let main_c : IVec S_ 32 := constantI S_ 32 1#32
  let main_v0 : IVec S16 32 := broadcastInDim S16 ![] bcast_S_S16 main_c
  let main_v1 : IVec S16 1 := cmpi .sge main_arg1 main_v0
  let main_c_0 : IVec S_ 32 := constantI S_ 32 4096#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  main_v5
-- ==== Kernel.lean ====
abbrev S16x4096x1024 : Shape := ⟨3, ![16, 4096, 1024]⟩
abbrev S16 : Shape := ⟨1, ![16]⟩
abbrev S65536x1024 : Shape := ⟨2, ![65536, 1024]⟩
abbrev S16x1024 : Shape := ⟨2, ![16, 1024]⟩
abbrev S_ : Shape := ⟨0, ![]⟩
abbrev S1 : Shape := ⟨1, ![1]⟩
abbrev S1x1024 : Shape := ⟨2, ![1, 1024]⟩

abbrev nBuf : Table → Nat
  | .hbm => 4
  | .local .scScalar .smem => 1
  | _ => 0

abbrev bufTy : (tb : Table) → Fin (nBuf tb) → BufTy
  | .hbm, ⟨0, _⟩ => ⟨S16x4096x1024, .f32⟩
  | .hbm, ⟨1, _⟩ => ⟨S16, .i32⟩
  | .hbm, ⟨2, _⟩ => ⟨S65536x1024, .f32⟩
  | .hbm, ⟨3, _⟩ => ⟨S16x1024, .f32⟩
  | .local .scScalar .smem, ⟨0, _⟩ => ⟨S16, .i32⟩
  | _, _ => ⟨S16x4096x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scs : Ref sig .scScalar := ⟨.hbm, 2, rfl⟩
abbrev main_arg1_scs : Ref sig .scScalar := ⟨.hbm, 1, rfl⟩
abbrev main_v1_scs : Ref sig .scScalar := ⟨.hbm, 3, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v1 : BitVec 32) : Fin 2 → Nat :=
  let c0_i32_0 : BitVec 32 := 0#32
  let c1_i32 : BitVec 32 := 1#32
  let v2 : BitVec 32 := Scalar.subi v1 c1_i32
  let v3 : BitVec 32 := Scalar.addi c0_i32_0 v2
  let c0_i32_3 : BitVec 32 := 0#32
  ![v3.toNat, 0]

def k0_off2 (v7 : BitVec 32) : Fin 2 → Nat :=
  let c4096_i32 : BitVec 32 := 4096#32
  let c1_i32_5 : BitVec 32 := 1#32
  let v8 : BitVec 32 := Scalar.subi v7 c1_i32_5
  let v9 : BitVec 32 := Scalar.addi c4096_i32 v8
  let c0_i32_8 : BitVec 32 := 0#32
  ![v9.toNat, 0]

def k0_off3 (v13 : BitVec 32) : Fin 2 → Nat :=
  let c8192_i32 : BitVec 32 := 8192#32
  let c1_i32_9 : BitVec 32 := 1#32
  let v14 : BitVec 32 := Scalar.subi v13 c1_i32_9
  let v15 : BitVec 32 := Scalar.addi c8192_i32 v14
  let c0_i32_12 : BitVec 32 := 0#32
  ![v15.toNat, 0]

def k0_off4 (v19 : BitVec 32) : Fin 2 → Nat :=
  let c12288_i32 : BitVec 32 := 12288#32
  let c1_i32_13 : BitVec 32 := 1#32
  let v20 : BitVec 32 := Scalar.subi v19 c1_i32_13
  let v21 : BitVec 32 := Scalar.addi c12288_i32 v20
  let c0_i32_16 : BitVec 32 := 0#32
  ![v21.toNat, 0]

def k0_off5 (v25 : BitVec 32) : Fin 2 → Nat :=
  let c16384_i32 : BitVec 32 := 16384#32
  let c1_i32_17 : BitVec 32 := 1#32
  let v26 : BitVec 32 := Scalar.subi v25 c1_i32_17
  let v27 : BitVec 32 := Scalar.addi c16384_i32 v26
  let c0_i32_20 : BitVec 32 := 0#32
  ![v27.toNat, 0]

def k0_off6 (v31 : BitVec 32) : Fin 2 → Nat :=
  let c20480_i32 : BitVec 32 := 20480#32
  let c1_i32_21 : BitVec 32 := 1#32
  let v32 : BitVec 32 := Scalar.subi v31 c1_i32_21
  let v33 : BitVec 32 := Scalar.addi c20480_i32 v32
  let c0_i32_24 : BitVec 32 := 0#32
  ![v33.toNat, 0]

def k0_off7 (v37 : BitVec 32) : Fin 2 → Nat :=
  let c24576_i32 : BitVec 32 := 24576#32
  let c1_i32_25 : BitVec 32 := 1#32
  let v38 : BitVec 32 := Scalar.subi v37 c1_i32_25
  let v39 : BitVec 32 := Scalar.addi c24576_i32 v38
  let c0_i32_28 : BitVec 32 := 0#32
  ![v39.toNat, 0]

def k0_off8 (v43 : BitVec 32) : Fin 2 → Nat :=
  let c28672_i32 : BitVec 32 := 28672#32
  let c1_i32_29 : BitVec 32 := 1#32
  let v44 : BitVec 32 := Scalar.subi v43 c1_i32_29
  let v45 : BitVec 32 := Scalar.addi c28672_i32 v44
  let c0_i32_32 : BitVec 32 := 0#32
  ![v45.toNat, 0]

def k0_off9 (v49 : BitVec 32) : Fin 2 → Nat :=
  let c32768_i32 : BitVec 32 := 32768#32
  let c1_i32_33 : BitVec 32 := 1#32
  let v50 : BitVec 32 := Scalar.subi v49 c1_i32_33
  let v51 : BitVec 32 := Scalar.addi c32768_i32 v50
  let c0_i32_36 : BitVec 32 := 0#32
  ![v51.toNat, 0]

def k0_off10 (v55 : BitVec 32) : Fin 2 → Nat :=
  let c36864_i32 : BitVec 32 := 36864#32
  let c1_i32_37 : BitVec 32 := 1#32
  let v56 : BitVec 32 := Scalar.subi v55 c1_i32_37
  let v57 : BitVec 32 := Scalar.addi c36864_i32 v56
  let c0_i32_40 : BitVec 32 := 0#32
  ![v57.toNat, 0]

def k0_off11 (v61 : BitVec 32) : Fin 2 → Nat :=
  let c40960_i32 : BitVec 32 := 40960#32
  let c1_i32_41 : BitVec 32 := 1#32
  let v62 : BitVec 32 := Scalar.subi v61 c1_i32_41
  let v63 : BitVec 32 := Scalar.addi c40960_i32 v62
  let c0_i32_44 : BitVec 32 := 0#32
  ![v63.toNat, 0]

def k0_off12 (v67 : BitVec 32) : Fin 2 → Nat :=
  let c45056_i32 : BitVec 32 := 45056#32
  let c1_i32_45 : BitVec 32 := 1#32
  let v68 : BitVec 32 := Scalar.subi v67 c1_i32_45
  let v69 : BitVec 32 := Scalar.addi c45056_i32 v68
  let c0_i32_48 : BitVec 32 := 0#32
  ![v69.toNat, 0]

def k0_off13 (v73 : BitVec 32) : Fin 2 → Nat :=
  let c49152_i32 : BitVec 32 := 49152#32
  let c1_i32_49 : BitVec 32 := 1#32
  let v74 : BitVec 32 := Scalar.subi v73 c1_i32_49
  let v75 : BitVec 32 := Scalar.addi c49152_i32 v74
  let c0_i32_52 : BitVec 32 := 0#32
  ![v75.toNat, 0]

def k0_off14 (v79 : BitVec 32) : Fin 2 → Nat :=
  let c53248_i32 : BitVec 32 := 53248#32
  let c1_i32_53 : BitVec 32 := 1#32
  let v80 : BitVec 32 := Scalar.subi v79 c1_i32_53
  let v81 : BitVec 32 := Scalar.addi c53248_i32 v80
  let c0_i32_56 : BitVec 32 := 0#32
  ![v81.toNat, 0]

def k0_off15 (v85 : BitVec 32) : Fin 2 → Nat :=
  let c57344_i32 : BitVec 32 := 57344#32
  let c1_i32_57 : BitVec 32 := 1#32
  let v86 : BitVec 32 := Scalar.subi v85 c1_i32_57
  let v87 : BitVec 32 := Scalar.addi c57344_i32 v86
  let c0_i32_60 : BitVec 32 := 0#32
  ![v87.toNat, 0]

def k0_off16 (v91 : BitVec 32) : Fin 2 → Nat :=
  let c61440_i32 : BitVec 32 := 61440#32
  let c1_i32_61 : BitVec 32 := 1#32
  let v92 : BitVec 32 := Scalar.subi v91 c1_i32_61
  let v93 : BitVec 32 := Scalar.addi c61440_i32 v92
  let c0_i32_64 : BitVec 32 := 0#32
  ![v93.toNat, 0]

def k0_chk16 (v91 : BitVec 32) : Prop :=
  (∀ a, (k0_off16 v91) a + S1x1024.size a ≤ S65536x1024.size a)
theorem k0_off16_inb : ∀ (v91 : BitVec 32) (k0_hw16 : k0_chk16 v91), ∀ a, (k0_off16 v91) a + S1x1024.size a ≤ S65536x1024.size a := fun v91 k0_hw16 => k0_hw16

def k0_off17 (v1 : BitVec 32) : Fin 2 → Nat :=
  let c0_i32_0 : BitVec 32 := 0#32
  let c1_i32 : BitVec 32 := 1#32
  let v2 : BitVec 32 := Scalar.subi v1 c1_i32
  let v3 : BitVec 32 := Scalar.addi c0_i32_0 v2
  let c0_i32_67 : BitVec 32 := 0#32
  ![v3.toNat, 0]

def k0_chk1 (v1 : BitVec 32) : Prop :=
  (∀ a, (k0_off1 v1) a + S1x1024.size a ≤ S65536x1024.size a) ∧
  (∀ a, (k0_off17 v1) a + S1x1024.size a ≤ S65536x1024.size a)
theorem k0_off1_inb : ∀ (v1 : BitVec 32) (k0_hw1 : k0_chk1 v1), ∀ a, (k0_off1 v1) a + S1x1024.size a ≤ S65536x1024.size a := fun v1 k0_hw1 => k0_hw1.1
theorem k0_off17_inb : ∀ (v1 : BitVec 32) (k0_hw1 : k0_chk1 v1), ∀ a, (k0_off17 v1) a + S1x1024.size a ≤ S65536x1024.size a := fun v1 k0_hw1 => k0_hw1.2

def k0_off18 (v7 : BitVec 32) : Fin 2 → Nat :=
  let c4096_i32 : BitVec 32 := 4096#32
  let c1_i32_5 : BitVec 32 := 1#32
  let v8 : BitVec 32 := Scalar.subi v7 c1_i32_5
  let v9 : BitVec 32 := Scalar.addi c4096_i32 v8
  let c0_i32_70 : BitVec 32 := 0#32
  ![v9.toNat, 0]

def k0_chk2 (v7 : BitVec 32) : Prop :=
  (∀ a, (k0_off2 v7) a + S1x1024.size a ≤ S65536x1024.size a) ∧
  (∀ a, (k0_off18 v7) a + S1x1024.size a ≤ S65536x1024.size a)
theorem k0_off2_inb : ∀ (v7 : BitVec 32) (k0_hw2 : k0_chk2 v7), ∀ a, (k0_off2 v7) a + S1x1024.size a ≤ S65536x1024.size a := fun v7 k0_hw2 => k0_hw2.1
theorem k0_off18_inb : ∀ (v7 : BitVec 32) (k0_hw2 : k0_chk2 v7), ∀ a, (k0_off18 v7) a + S1x1024.size a ≤ S65536x1024.size a := fun v7 k0_hw2 => k0_hw2.2

def k0_off19 (v13 : BitVec 32) : Fin 2 → Nat :=
  let c8192_i32 : BitVec 32 := 8192#32
  let c1_i32_9 : BitVec 32 := 1#32
  let v14 : BitVec 32 := Scalar.subi v13 c1_i32_9
  let v15 : BitVec 32 := Scalar.addi c8192_i32 v14
  let c0_i32_73 : BitVec 32 := 0#32
  ![v15.toNat, 0]

def k0_chk3 (v13 : BitVec 32) : Prop :=
  (∀ a, (k0_off3 v13) a + S1x1024.size a ≤ S65536x1024.size a) ∧
  (∀ a, (k0_off19 v13) a + S1x1024.size a ≤ S65536x1024.size a)
theorem k0_off3_inb : ∀ (v13 : BitVec 32) (k0_hw3 : k0_chk3 v13), ∀ a, (k0_off3 v13) a + S1x1024.size a ≤ S65536x1024.size a := fun v13 k0_hw3 => k0_hw3.1
theorem k0_off19_inb : ∀ (v13 : BitVec 32) (k0_hw3 : k0_chk3 v13), ∀ a, (k0_off19 v13) a + S1x1024.size a ≤ S65536x1024.size a := fun v13 k0_hw3 => k0_hw3.2

def k0_off20 (v19 : BitVec 32) : Fin 2 → Nat :=
  let c12288_i32 : BitVec 32 := 12288#32
  let c1_i32_13 : BitVec 32 := 1#32
  let v20 : BitVec 32 := Scalar.subi v19 c1_i32_13
  let v21 : BitVec 32 := Scalar.addi c12288_i32 v20
  let c0_i32_76 : BitVec 32 := 0#32
  ![v21.toNat, 0]

def k0_chk4 (v19 : BitVec 32) : Prop :=
  (∀ a, (k0_off4 v19) a + S1x1024.size a ≤ S65536x1024.size a) ∧
  (∀ a, (k0_off20 v19) a + S1x1024.size a ≤ S65536x1024.size a)
theorem k0_off4_inb : ∀ (v19 : BitVec 32) (k0_hw4 : k0_chk4 v19), ∀ a, (k0_off4 v19) a + S1x1024.size a ≤ S65536x1024.size a := fun v19 k0_hw4 => k0_hw4.1
theorem k0_off20_inb : ∀ (v19 : BitVec 32) (k0_hw4 : k0_chk4 v19), ∀ a, (k0_off20 v19) a + S1x1024.size a ≤ S65536x1024.size a := fun v19 k0_hw4 => k0_hw4.2

def k0_off21 (v25 : BitVec 32) : Fin 2 → Nat :=
  let c16384_i32 : BitVec 32 := 16384#32
  let c1_i32_17 : BitVec 32 := 1#32
  let v26 : BitVec 32 := Scalar.subi v25 c1_i32_17
  let v27 : BitVec 32 := Scalar.addi c16384_i32 v26
  let c0_i32_79 : BitVec 32 := 0#32
  ![v27.toNat, 0]

def k0_chk5 (v25 : BitVec 32) : Prop :=
  (∀ a, (k0_off5 v25) a + S1x1024.size a ≤ S65536x1024.size a) ∧
  (∀ a, (k0_off21 v25) a + S1x1024.size a ≤ S65536x1024.size a)
theorem k0_off5_inb : ∀ (v25 : BitVec 32) (k0_hw5 : k0_chk5 v25), ∀ a, (k0_off5 v25) a + S1x1024.size a ≤ S65536x1024.size a := fun v25 k0_hw5 => k0_hw5.1
theorem k0_off21_inb : ∀ (v25 : BitVec 32) (k0_hw5 : k0_chk5 v25), ∀ a, (k0_off21 v25) a + S1x1024.size a ≤ S65536x1024.size a := fun v25 k0_hw5 => k0_hw5.2

def k0_off22 (v31 : BitVec 32) : Fin 2 → Nat :=
  let c20480_i32 : BitVec 32 := 20480#32
  let c1_i32_21 : BitVec 32 := 1#32
  let v32 : BitVec 32 := Scalar.subi v31 c1_i32_21
  let v33 : BitVec 32 := Scalar.addi c20480_i32 v32
  let c0_i32_82 : BitVec 32 := 0#32
  ![v33.toNat, 0]

def k0_chk6 (v31 : BitVec 32) : Prop :=
  (∀ a, (k0_off6 v31) a + S1x1024.size a ≤ S65536x1024.size a) ∧
  (∀ a, (k0_off22 v31) a + S1x1024.size a ≤ S65536x1024.size a)
theorem k0_off6_inb : ∀ (v31 : BitVec 32) (k0_hw6 : k0_chk6 v31), ∀ a, (k0_off6 v31) a + S1x1024.size a ≤ S65536x1024.size a := fun v31 k0_hw6 => k0_hw6.1
theorem k0_off22_inb : ∀ (v31 : BitVec 32) (k0_hw6 : k0_chk6 v31), ∀ a, (k0_off22 v31) a + S1x1024.size a ≤ S65536x1024.size a := fun v31 k0_hw6 => k0_hw6.2

def k0_off23 (v37 : BitVec 32) : Fin 2 → Nat :=
  let c24576_i32 : BitVec 32 := 24576#32
  let c1_i32_25 : BitVec 32 := 1#32
  let v38 : BitVec 32 := Scalar.subi v37 c1_i32_25
  let v39 : BitVec 32 := Scalar.addi c24576_i32 v38
  let c0_i32_85 : BitVec 32 := 0#32
  ![v39.toNat, 0]

def k0_chk7 (v37 : BitVec 32) : Prop :=
  (∀ a, (k0_off7 v37) a + S1x1024.size a ≤ S65536x1024.size a) ∧
  (∀ a, (k0_off23 v37) a + S1x1024.size a ≤ S65536x1024.size a)
theorem k0_off7_inb : ∀ (v37 : BitVec 32) (k0_hw7 : k0_chk7 v37), ∀ a, (k0_off7 v37) a + S1x1024.size a ≤ S65536x1024.size a := fun v37 k0_hw7 => k0_hw7.1
theorem k0_off23_inb : ∀ (v37 : BitVec 32) (k0_hw7 : k0_chk7 v37), ∀ a, (k0_off23 v37) a + S1x1024.size a ≤ S65536x1024.size a := fun v37 k0_hw7 => k0_hw7.2

def k0_off24 (v43 : BitVec 32) : Fin 2 → Nat :=
  let c28672_i32 : BitVec 32 := 28672#32
  let c1_i32_29 : BitVec 32 := 1#32
  let v44 : BitVec 32 := Scalar.subi v43 c1_i32_29
  let v45 : BitVec 32 := Scalar.addi c28672_i32 v44
  let c0_i32_88 : BitVec 32 := 0#32
  ![v45.toNat, 0]

def k0_chk8 (v43 : BitVec 32) : Prop :=
  (∀ a, (k0_off8 v43) a + S1x1024.size a ≤ S65536x1024.size a) ∧
  (∀ a, (k0_off24 v43) a + S1x1024.size a ≤ S65536x1024.size a)
theorem k0_off8_inb : ∀ (v43 : BitVec 32) (k0_hw8 : k0_chk8 v43), ∀ a, (k0_off8 v43) a + S1x1024.size a ≤ S65536x1024.size a := fun v43 k0_hw8 => k0_hw8.1
theorem k0_off24_inb : ∀ (v43 : BitVec 32) (k0_hw8 : k0_chk8 v43), ∀ a, (k0_off24 v43) a + S1x1024.size a ≤ S65536x1024.size a := fun v43 k0_hw8 => k0_hw8.2

def k0_off25 (v49 : BitVec 32) : Fin 2 → Nat :=
  let c32768_i32 : BitVec 32 := 32768#32
  let c1_i32_33 : BitVec 32 := 1#32
  let v50 : BitVec 32 := Scalar.subi v49 c1_i32_33
  let v51 : BitVec 32 := Scalar.addi c32768_i32 v50
  let c0_i32_91 : BitVec 32 := 0#32
  ![v51.toNat, 0]

def k0_chk9 (v49 : BitVec 32) : Prop :=
  (∀ a, (k0_off9 v49) a + S1x1024.size a ≤ S65536x1024.size a) ∧
  (∀ a, (k0_off25 v49) a + S1x1024.size a ≤ S65536x1024.size a)
theorem k0_off9_inb : ∀ (v49 : BitVec 32) (k0_hw9 : k0_chk9 v49), ∀ a, (k0_off9 v49) a + S1x1024.size a ≤ S65536x1024.size a := fun v49 k0_hw9 => k0_hw9.1
theorem k0_off25_inb : ∀ (v49 : BitVec 32) (k0_hw9 : k0_chk9 v49), ∀ a, (k0_off25 v49) a + S1x1024.size a ≤ S65536x1024.size a := fun v49 k0_hw9 => k0_hw9.2

def k0_off26 (v55 : BitVec 32) : Fin 2 → Nat :=
  let c36864_i32 : BitVec 32 := 36864#32
  let c1_i32_37 : BitVec 32 := 1#32
  let v56 : BitVec 32 := Scalar.subi v55 c1_i32_37
  let v57 : BitVec 32 := Scalar.addi c36864_i32 v56
  let c0_i32_94 : BitVec 32 := 0#32
  ![v57.toNat, 0]

def k0_chk10 (v55 : BitVec 32) : Prop :=
  (∀ a, (k0_off10 v55) a + S1x1024.size a ≤ S65536x1024.size a) ∧
  (∀ a, (k0_off26 v55) a + S1x1024.size a ≤ S65536x1024.size a)
theorem k0_off10_inb : ∀ (v55 : BitVec 32) (k0_hw10 : k0_chk10 v55), ∀ a, (k0_off10 v55) a + S1x1024.size a ≤ S65536x1024.size a := fun v55 k0_hw10 => k0_hw10.1
theorem k0_off26_inb : ∀ (v55 : BitVec 32) (k0_hw10 : k0_chk10 v55), ∀ a, (k0_off26 v55) a + S1x1024.size a ≤ S65536x1024.size a := fun v55 k0_hw10 => k0_hw10.2

def k0_off27 (v61 : BitVec 32) : Fin 2 → Nat :=
  let c40960_i32 : BitVec 32 := 40960#32
  let c1_i32_41 : BitVec 32 := 1#32
  let v62 : BitVec 32 := Scalar.subi v61 c1_i32_41
  let v63 : BitVec 32 := Scalar.addi c40960_i32 v62
  let c0_i32_97 : BitVec 32 := 0#32
  ![v63.toNat, 0]

def k0_chk11 (v61 : BitVec 32) : Prop :=
  (∀ a, (k0_off11 v61) a + S1x1024.size a ≤ S65536x1024.size a) ∧
  (∀ a, (k0_off27 v61) a + S1x1024.size a ≤ S65536x1024.size a)
theorem k0_off11_inb : ∀ (v61 : BitVec 32) (k0_hw11 : k0_chk11 v61), ∀ a, (k0_off11 v61) a + S1x1024.size a ≤ S65536x1024.size a := fun v61 k0_hw11 => k0_hw11.1
theorem k0_off27_inb : ∀ (v61 : BitVec 32) (k0_hw11 : k0_chk11 v61), ∀ a, (k0_off27 v61) a + S1x1024.size a ≤ S65536x1024.size a := fun v61 k0_hw11 => k0_hw11.2

def k0_off28 (v67 : BitVec 32) : Fin 2 → Nat :=
  let c45056_i32 : BitVec 32 := 45056#32
  let c1_i32_45 : BitVec 32 := 1#32
  let v68 : BitVec 32 := Scalar.subi v67 c1_i32_45
  let v69 : BitVec 32 := Scalar.addi c45056_i32 v68
  let c0_i32_100 : BitVec 32 := 0#32
  ![v69.toNat, 0]

def k0_chk12 (v67 : BitVec 32) : Prop :=
  (∀ a, (k0_off12 v67) a + S1x1024.size a ≤ S65536x1024.size a) ∧
  (∀ a, (k0_off28 v67) a + S1x1024.size a ≤ S65536x1024.size a)
theorem k0_off12_inb : ∀ (v67 : BitVec 32) (k0_hw12 : k0_chk12 v67), ∀ a, (k0_off12 v67) a + S1x1024.size a ≤ S65536x1024.size a := fun v67 k0_hw12 => k0_hw12.1
theorem k0_off28_inb : ∀ (v67 : BitVec 32) (k0_hw12 : k0_chk12 v67), ∀ a, (k0_off28 v67) a + S1x1024.size a ≤ S65536x1024.size a := fun v67 k0_hw12 => k0_hw12.2

def k0_off29 (v73 : BitVec 32) : Fin 2 → Nat :=
  let c49152_i32 : BitVec 32 := 49152#32
  let c1_i32_49 : BitVec 32 := 1#32
  let v74 : BitVec 32 := Scalar.subi v73 c1_i32_49
  let v75 : BitVec 32 := Scalar.addi c49152_i32 v74
  let c0_i32_103 : BitVec 32 := 0#32
  ![v75.toNat, 0]

def k0_chk13 (v73 : BitVec 32) : Prop :=
  (∀ a, (k0_off13 v73) a + S1x1024.size a ≤ S65536x1024.size a) ∧
  (∀ a, (k0_off29 v73) a + S1x1024.size a ≤ S65536x1024.size a)
theorem k0_off13_inb : ∀ (v73 : BitVec 32) (k0_hw13 : k0_chk13 v73), ∀ a, (k0_off13 v73) a + S1x1024.size a ≤ S65536x1024.size a := fun v73 k0_hw13 => k0_hw13.1
theorem k0_off29_inb : ∀ (v73 : BitVec 32) (k0_hw13 : k0_chk13 v73), ∀ a, (k0_off29 v73) a + S1x1024.size a ≤ S65536x1024.size a := fun v73 k0_hw13 => k0_hw13.2

def k0_off30 (v79 : BitVec 32) : Fin 2 → Nat :=
  let c53248_i32 : BitVec 32 := 53248#32
  let c1_i32_53 : BitVec 32 := 1#32
  let v80 : BitVec 32 := Scalar.subi v79 c1_i32_53
  let v81 : BitVec 32 := Scalar.addi c53248_i32 v80
  let c0_i32_106 : BitVec 32 := 0#32
  ![v81.toNat, 0]

def k0_chk14 (v79 : BitVec 32) : Prop :=
  (∀ a, (k0_off14 v79) a + S1x1024.size a ≤ S65536x1024.size a) ∧
  (∀ a, (k0_off30 v79) a + S1x1024.size a ≤ S65536x1024.size a)
theorem k0_off14_inb : ∀ (v79 : BitVec 32) (k0_hw14 : k0_chk14 v79), ∀ a, (k0_off14 v79) a + S1x1024.size a ≤ S65536x1024.size a := fun v79 k0_hw14 => k0_hw14.1
theorem k0_off30_inb : ∀ (v79 : BitVec 32) (k0_hw14 : k0_chk14 v79), ∀ a, (k0_off30 v79) a + S1x1024.size a ≤ S65536x1024.size a := fun v79 k0_hw14 => k0_hw14.2

def k0_off31 (v85 : BitVec 32) : Fin 2 → Nat :=
  let c57344_i32 : BitVec 32 := 57344#32
  let c1_i32_57 : BitVec 32 := 1#32
  let v86 : BitVec 32 := Scalar.subi v85 c1_i32_57
  let v87 : BitVec 32 := Scalar.addi c57344_i32 v86
  let c0_i32_109 : BitVec 32 := 0#32
  ![v87.toNat, 0]

def k0_chk15 (v85 : BitVec 32) : Prop :=
  (∀ a, (k0_off15 v85) a + S1x1024.size a ≤ S65536x1024.size a) ∧
  (∀ a, (k0_off31 v85) a + S1x1024.size a ≤ S65536x1024.size a)
theorem k0_off15_inb : ∀ (v85 : BitVec 32) (k0_hw15 : k0_chk15 v85), ∀ a, (k0_off15 v85) a + S1x1024.size a ≤ S65536x1024.size a := fun v85 k0_hw15 => k0_hw15.1
theorem k0_off31_inb : ∀ (v85 : BitVec 32) (k0_hw15 : k0_chk15 v85), ∀ a, (k0_off31 v85) a + S1x1024.size a ≤ S65536x1024.size a := fun v85 k0_hw15 => k0_hw15.2

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S16x4096x1024 : Shape := ⟨3, ![16, 4096, 1024]⟩
abbrev S16 : Shape := ⟨1, ![16]⟩
abbrev S_ : Shape := ⟨0, ![]⟩
abbrev S65536x1024 : Shape := ⟨2, ![65536, 1024]⟩
abbrev S16x1 : Shape := ⟨2, ![16, 1]⟩
abbrev S1 : Shape := ⟨1, ![1]⟩
abbrev S1x1 : Shape := ⟨2, ![1, 1]⟩
abbrev S16x1024 : Shape := ⟨2, ![16, 1024]⟩

abbrev nBuf : Space → Nat
  | .hbm => 34
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16, .i32⟩
  | .hbm, ⟨2, _⟩ => ⟨S16, .i32⟩
  | .hbm, ⟨3, _⟩ => ⟨S_, .i32⟩
  | .hbm, ⟨4, _⟩ => ⟨S16, .i32⟩
  | .hbm, ⟨5, _⟩ => ⟨S16, .i32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S16, .i32⟩
  | .hbm, ⟨10, _⟩ => ⟨S65536x1024, .f32⟩
  | .hbm, ⟨11, _⟩ => ⟨S_, .i32⟩
  | .hbm, ⟨12, _⟩ => ⟨S16, .i32⟩
  | .hbm, ⟨13, _⟩ => ⟨S16, .i1⟩
  | .hbm, ⟨14, _⟩ => ⟨S_, .i32⟩
  | .hbm, ⟨15, _⟩ => ⟨S16, .i32⟩
  | .hbm, ⟨16, _⟩ => ⟨S16, .i32⟩
  | .hbm, ⟨17, _⟩ => ⟨S16, .i32⟩
  | .hbm, ⟨18, _⟩ => ⟨S16x1, .i32⟩
  | .hbm, ⟨19, _⟩ => ⟨S1, .i32⟩
  | .hbm, ⟨20, _⟩ => ⟨S_, .i32⟩
  | .hbm, ⟨21, _⟩ => ⟨S16x1, .i32⟩
  | .hbm, ⟨22, _⟩ => ⟨S16x1, .i1⟩
  | .hbm, ⟨23, _⟩ => ⟨S1x1, .i32⟩
  | .hbm, ⟨24, _⟩ => ⟨S16x1, .i32⟩
  | .hbm, ⟨25, _⟩ => ⟨S16x1, .i1⟩
  | .hbm, ⟨26, _⟩ => ⟨S16x1, .i1⟩
  | .hbm, ⟨27, _⟩ => ⟨S_, .i1⟩
  | .hbm, ⟨28, _⟩ => ⟨S16, .i1⟩
  | .hbm, ⟨29, _⟩ => ⟨S16x1024, .f32⟩
  | .hbm, ⟨30, _⟩ => ⟨S16x1024, .i1⟩
  | .hbm, ⟨31, _⟩ => ⟨S_, .f32⟩
  | .hbm, ⟨32, _⟩ => ⟨S16x1024, .f32⟩
  | .hbm, ⟨33, _⟩ => ⟨S16x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v7 : Ref sig .tc := ⟨.hbm, 33, rfl⟩

abbrev nD : Nat := 1
abbrev τ : Topo := Topo.v7x

variable {F : FTy → Type} [FloatOps F]
-- ==== Proof.Rows.lean ====
/-
  The rows the kernel picks, as pure facts: for every sequence `b` the flat array (16 sequences of 4096 rows of 1024
  numbers, one after the other) has at row `4096·b + len b − 1` the last row that counts. The kernel computes that row
  number in 32-bit words; with every length from 1 to 4096 the words do not wrap and the row lies inside the array.
-/
module

public import proofs.«01_k».proof.Defs
public import Idealize.ShloMosaic.Lib.ValueIdxCore

@[expose] public section

noncomputable section

namespace Cert.Proof.Rows

open Idealize.ShloMosaic Idealize.ShloMosaic.ValueIdx

/-- The flat array's shape, the lengths' and the result's. -/
abbrev SFlat : Shape := ⟨2, ![65536, 1024]⟩
abbrev SLen : Shape := ⟨1, ![16]⟩
abbrev SOut : Shape := ⟨2, ![16, 1024]⟩

/-- Every length lies from 1 to 4096. -/
def InRange (len : SLen.Idx → BitVec 32) : Prop := ∀ i, 1 ≤ (len i).toNat ∧ (len i).toNat ≤ 4096

/-- The row number of sequence `b` at length word `w`, as the kernel's words compute it. -/
def start (b : ℕ) (w : BitVec 32) : ℕ := (Scalar.addi (BitVec.ofNat 32 (4096 * b)) (Scalar.subi w 1#32)).toNat

/-- In range the words do not wrap. -/
theorem start_eq {b : ℕ} (hb : b < 16) {w : BitVec 32} (h : 1 ≤ w.toNat ∧ w.toNat ≤ 4096) : start b w = 4096 * b + (w.toNat - 1) := by
  unfold start
  show (BitVec.ofNat 32 (4096 * b) + (w - 1#32)).toNat = _
  rw [BitVec.toNat_add, BitVec.toNat_sub, BitVec.toNat_ofNat, BitVec.toNat_ofNat]
  omega

theorem start_lt {b : ℕ} (hb : b < 16) {w : BitVec 32} (h : 1 ≤ w.toNat ∧ w.toNat ≤ 4096) : start b w < 65536 := by
  rw [start_eq hb h]; omega

/-- The row picked for sequence `b` (the bound holds by reduction; in range nothing is reduced). -/
def rowOf (len : SLen.Idx → BitVec 32) (b : Fin 16) : Fin 65536 := ⟨start b.val (len (ix1 b)) % 65536, Nat.mod_lt _ (by decide)⟩

theorem rowOf_val {len : SLen.Idx → BitVec 32} (h : InRange len) (b : Fin 16) : (rowOf len b).val = start b.val (len (ix1 b)) :=
  Nat.mod_eq_of_lt (start_lt b.isLt (h _))

/-- What the kernel computes: row `b` of the result is the row picked for sequence `b`. -/
def lastRows {α : Type} (flat : SFlat.Idx → α) (len : SLen.Idx → BitVec 32) : SOut.Idx → α :=
  fun i => flat (ix2 (rowOf len (i 0)) (i 1))

/-- A slice of one row at the computed row number lies inside the flat array: the condition the kernel's body assumes at
    each word it reads. -/
theorem row_inside {b : ℕ} (hb : b < 16) {w : BitVec 32} (h : 1 ≤ w.toNat ∧ w.toNat ≤ 4096) :
    ∀ a : Fin 2, (![start b w, 0] : Fin 2 → ℕ) a + (![1, 1024] : Fin 2 → ℕ) a ≤ (![65536, 1024] : Fin 2 → ℕ) a := by
  intro a
  have := start_lt hb h
  match a with
  | 0 => show start b w + 1 ≤ 65536; omega
  | 1 => show 0 + 1024 ≤ 1024; omega

end Cert.Proof.Rows

end
-- ==== Proof.Body.lean ====
/-
  The kernel's body on the sequencer of SparseCore 0, for any float values: from the flat array (a share of it is enough),
  the lengths, the result array at anything, the scalar memory, both DMA counters at zero and whatever the sequencer
  owes, the body runs to the result array at `lastRows`, the lengths and both counters as they were.

  Sixteen row copies are outstanding on one DMA semaphore, so no wait but the last says anything of any row: they are one
  batch (Lib/Batch.lean), whose `b`-th delivery is row `b` of the result AT ITS FINAL CONTENTS. `Busy b` is what the
  sequencer holds once `b` copies are out: the batch, the rows of the result not yet lent, and one read share of the flat
  array per copy to come. Each step of the body is one lemma over `b`; the run cites them row by row.
-/
module

public import proofs.«01_k».proof.Proof.Rows
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof.Body

open Cert.KernelIdeal Cert.KernelIdeal.Gen Cert.Proof.Rows

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.Transfers (Batch pending pending_zero bigSep_pending_step shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it, and the resource algebra -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds library beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev argLoc (d : Dev nD) : Loc nD τ sig := (SparseCore.T d).loc main_arg0
abbrev lenLoc (d : Dev nD) : Loc nD τ sig := (SparseCore.T d).loc main_arg1
abbrev flatLoc (d : Dev nD) : Loc nD τ sig := (SparseCore.T d).loc main_v0
abbrev outLoc (d : Dev nD) : Loc nD τ sig := (SparseCore.T d).loc main_v1

-- the memrefs the body table passes
abbrev flatM : Memref Cert.KernelIdeal.sig Kind.scScalar Space.hbm Cert.KernelIdeal.S65536x1024 EltTy.f32 := Memref.whole Cert.KernelIdeal.main_v0_scs
abbrev lenM : Memref Cert.KernelIdeal.sig Kind.scScalar Space.hbm Cert.KernelIdeal.S16 EltTy.i32 := Memref.whole Cert.KernelIdeal.main_arg1_scs
abbrev outM : Memref Cert.KernelIdeal.sig Kind.scScalar Space.hbm Cert.KernelIdeal.S16x1024 EltTy.f32 := Memref.whole Cert.KernelIdeal.main_v1_scs
abbrev smM : Memref Cert.KernelIdeal.sig Kind.scScalar Space.smem Cert.KernelIdeal.S16 EltTy.i32 := Memref.whole Cert.KernelIdeal.cc0_scratch0

/-- The sequencer that runs the body. -/
abbrev S0 (d : Dev nD) (h : 0 < grid0.bound 0) : Thread nD τ := S d ((⟨0, h⟩ : Fin (grid0.bound 0)).castLE hcore0)

/-- Its scalar memory's table of lengths. -/
abbrev smLoc (d : Dev nD) (h : 0 < grid0.bound 0) : Loc nD τ sig := (S0 d h).loc cc0_scratch0

theorem row_inb {b : ℕ} (hb : b < 16) : ∀ a, (![b, 0] : Fin 2 → ℕ) a + S1x1024.size a ≤ S16x1024.size a := by
  intro a
  match a with
  | 0 => show b + 1 ≤ 16; omega
  | 1 => show 0 + 1024 ≤ 1024; omega

/-- Row `b` of the result, as an array of elements of it. -/
abbrev rowRect (b : Fin 16) : Rect S16x1024 := Rect.unit (s := S16x1024) ![b.val, 0] S1x1024.size (row_inb b.isLt)
def rowSet (b : Fin 16) : Finset S16x1024.Idx := (rowRect b).set

theorem mem_rowSet {b : Fin 16} {i : S16x1024.Idx} : i ∈ rowSet b ↔ i 0 = b := by
  unfold rowSet
  rw [Rect.mem_set_unit]
  constructor
  · intro h
    have := h 0
    exact Fin.ext (by have h1 : b.val ≤ (i 0).val := this.1; have h2 : (i 0).val < b.val + 1 := this.2; omega)
  · rintro rfl a
    match a with
    | 0 => exact ⟨le_refl (i 0).val, Nat.lt_succ_self (i 0).val⟩
    | 1 => exact ⟨Nat.zero_le (i 1).val, by show (i 1).val < 0 + 1024; have : (i 1).val < 1024 := (i 1).isLt; omega⟩

theorem rows_disjoint : ∀ t ∈ (Finset.univ : Finset (Fin 16)), ∀ t' ∈ (Finset.univ : Finset (Fin 16)), t ≠ t' → Disjoint (rowSet t) (rowSet t') := by
  intro t _ t' _ hne
  exact Finset.disjoint_left.mpr fun i h h' => hne ((mem_rowSet.mp h).symm.trans (mem_rowSet.mp h'))

theorem rows_cover : (Finset.univ : Finset (Fin 16)).biUnion rowSet = Finset.univ := by
  ext i
  simp only [Finset.mem_biUnion, Finset.mem_univ, true_and, iff_true]
  exact ⟨i 0, mem_rowSet.mpr rfl⟩

/-- The result array whole is its sixteen rows. -/
theorem out_rows (d : Dev nD) (f : Buf (Elt F) (outLoc d)) :
    (outLoc d ↦{fullShare} f : sProp 𝕄) = bigSep Finset.univ fun b : Fin 16 => outLoc d ↦[rowSet b]{fullShare} f := by
  rw [← pointsTo_biUnion (ℓ := outLoc d) Finset.univ rowSet rows_disjoint]
  exact congrArg (fun I => (outLoc d ↦[I]{fullShare} f : sProp 𝕄)) rows_cover.symm

/-! ## One row copied -/

/-- The window of row `b` of the result, and of the row of the flat array at offsets `off`. -/
abbrev outRow {b : ℕ} (hb : ∀ a, (![b, 0] : Fin 2 → ℕ) a + S1x1024.size a ≤ S16x1024.size a) : Memref sig .scScalar .hbm S1x1024 .f32 :=
  (outM).slice (Rect.unit (s := S16x1024) ![b, 0] S1x1024.size hb) (fun _ => rfl)
abbrev flatRow {off : Fin 2 → ℕ} (hin : ∀ a, off a + S1x1024.size a ≤ S65536x1024.size a) : Memref sig .scScalar .hbm S1x1024 .f32 :=
  (flatM).slice (Rect.unit (s := S65536x1024) off S1x1024.size hin) (fun _ => rfl)

theorem set_outRow {b : ℕ} (hb : b < 16) (hin : ∀ a, (![b, 0] : Fin 2 → ℕ) a + S1x1024.size a ≤ S16x1024.size a) :
    (outRow hin).view.set = rowSet ⟨b, hb⟩ := by
  show ((View.whole main_v1_scs).slice _).set = _
  rw [View.set_slice_whole]; rfl

/-- The copy of the picked row leaves row `b` of the result at its final contents. -/
theorem row_written (d : Dev nD) (h : 0 < grid0.bound 0) {b : ℕ} (hb : b < 16) (hin : ∀ a, (![b, 0] : Fin 2 → ℕ) a + S1x1024.size a ≤ S16x1024.size a)
    (len : SLen.Idx → BitVec 32) (hlen : InRange len) {off : Fin 2 → ℕ} (hoff : off = ![start b (len (ix1 ⟨b, hb⟩)), 0])
    (hino : ∀ a, off a + S1x1024.size a ≤ S65536x1024.size a)
    (flat : Buf (Elt F) (flatLoc d)) (f : Buf (Elt F) (outLoc d)) :
    ∀ i ∈ rowSet ⟨b, hb⟩,
      (outRow hin).view.write (Elt F) f ((flatRow hino).view.read (Elt F) flat) Finset.univ i = lastRows (α := Elt F .f32) flat len i := by
  subst hoff
  intro i hi
  rw [← set_outRow hb hin] at hi
  obtain ⟨x, -, rfl⟩ := Finset.mem_map.mp hi
  rw [View.write_emb_of_mem (v := (outRow hin).view) f _ (Finset.mem_univ x)]
  show flat ((flatRow hino).view.emb x) = flat (ix2 (rowOf len ((outRow hin).view.emb x 0)) ((outRow hin).view.emb x 1))
  congr 1
  have hx0 : (x 0).val = 0 := by have : (x 0).val < 1 := (x 0).isLt; omega
  have e0 : ((outRow hin).view.emb x 0 : Fin 16) = ⟨b, hb⟩ := Fin.ext (by show b + 1 * (x 0).val = b; omega)
  have e1 : (rowOf len ((outRow hin).view.emb x 0)).val = start b (len (ix1 ⟨b, hb⟩)) := (congrArg (fun r => (rowOf len r).val) e0).trans (rowOf_val hlen _)
  funext a
  match a with
  | ⟨0, _⟩ =>
    refine Fin.ext (Eq.trans ?_ e1.symm)
    show start b (len (ix1 ⟨b, hb⟩)) + 1 * (x 0).val = start b (len (ix1 ⟨b, hb⟩))
    omega
  | ⟨1, _⟩ => rfl

/-! ## The batch of sixteen copies -/

section Run

variable [FloatOps F] (d : Dev nD) (h : 0 < grid0.bound 0)
variable (flat : Buf (Elt F) (flatLoc d)) (len : Buf (Elt F) (lenLoc d)) (f : Buf (Elt F) (outLoc d))

/-- The units one row's copy signals. -/
abbrev NR : ℕ := (outRow (row_inb (b := 0) (by decide))).view.dmaCredit

/-- What the `b`-th copy delivers: row `b` of the result at its final contents. -/
def deliv (b : Fin 16) : sProp 𝕄 := outLoc d ↦[rowSet b]{fullShare} lastRows (α := Elt F .f32) flat len

instance deliv_storable (b : Fin 16) : BI.Storable (upEmb : UEmb _ 𝕄) (deliv d flat len b) := by
  unfold deliv; infer_instance

/-- The batch once `b` copies are out and `u` units are waited for. -/
def Copies (b u : ℕ) : sProp 𝕄 := Batch (countersEmb (U := UU)) (S0 d h) (.dma cc0_scratch1.sem) (none : HIx 1) NR (deliv d flat len) b u

/-- What the sequencer holds once `b` copies are out. -/
def Busy (b : ℕ) : sProp 𝕄 :=
  iprop((bigSep (pending b) fun t : Fin 16 => iprop((flatLoc d ↦{shareTok fullShare 16 t} flat) ∗ outLoc d ↦[rowSet t]{fullShare} f))
    ∗ Copies d h flat len b 0)

/-- The length of sequence `b`, read from the scalar memory's table. -/
theorem wp_length {b : ℕ} (hb : b < 16) {hin : ∀ a, (![b] : Fin 1 → ℕ) a + S1.size a ≤ S16.size a}
    {hw : ((smM).access (Rect.unit (s := S16) ![b] S1.size hin)).Loads} {x : (Rect.unit (s := S16) ![b] S1.size hin).shape.Idx}
    {k : Elt F .i32 → Prog (TpuEff nD τ sig (Elt F) Λ₀ (S0 d h).2) PUnit} {Q : PUnit → sProp 𝕄} :
    (smLoc d h ↦{fullShare} (len : Buf (Elt F) (smLoc d h)) : sProp 𝕄)
      ⊢ iprop(((smLoc d h ↦{fullShare} (len : Buf (Elt F) (smLoc d h))) -∗ wp frame (wpE (defs₀ (F := F)) 𝒱₀ (S0 d h) none) Set.univ (k (len (ix1 ⟨b, hb⟩))) Q)
        -∗ wp frame (wpE (defs₀ (F := F)) 𝒱₀ (S0 d h) none) Set.univ (smemLoadElt smM (Rect.unit (s := S16) ![b] S1.size hin) hw x k) Q) := by
  have e : ((smM).access (Rect.unit (s := S16) ![b] S1.size hin)).read (Elt F) len x = len (ix1 ⟨b, hb⟩) := by
    show len _ = len _
    congr 1
    funext a
    match a with
    | ⟨0, _⟩ =>
      have hx0 : (x 0).val = 0 := by have : (x 0).val < 1 := (x 0).isLt; omega
      exact Fin.ext (by show b + 1 * (x 0).val = b; omega)
  have H := wp_smemLoadElt (defs := defs₀ (F := F)) (Γ := .empty) 𝒱₀ (S0 d h) none Set.univ (m := smM) (r := Rect.unit (s := S16) ![b] S1.size hin) (hw := hw) (x := x) (k := k) (Q := Q) (q := fullShare)
    (S := Finset.univ) (f := len) (Finset.subset_univ _)
  rw [e] at H
  exact H

/-- Copy `b` started: from the row of the flat array the length says, to row `b` of the result. -/
theorem wp_issue (hlen : InRange len) {b : ℕ} (hb : b < 16) {hin : ∀ a, (![b, 0] : Fin 2 → ℕ) a + S1x1024.size a ≤ S16x1024.size a}
    {off : Fin 2 → ℕ} (hoff : off = ![start b (len (ix1 ⟨b, hb⟩)), 0])
    {hino : ∀ a, off a + S1x1024.size a ≤ S65536x1024.size a}
    {hs : (flatRow hino).view.WordExact} {ht : (outRow hin).view.WordExact}
    {hty : DmaTarget.Typed (nD := nD) (τ := τ) (p := (S0 d h).2) .hbm (.dma cc0_scratch1.sem) (.here (outRow hin))}
    {k : PUnit → Prog (TpuEff nD τ sig (Elt F) Λ₀ (S0 d h).2) PUnit} {Q : PUnit → sProp 𝕄} :
    Busy d h flat len f b
      ⊢ iprop((Busy d h flat len f (b + 1) -∗ wp frame (wpE (defs₀ (F := F)) 𝒱₀ (S0 d h) none) Set.univ (k ⟨⟩) Q)
        -∗ wp frame (wpE (defs₀ (F := F)) 𝒱₀ (S0 d h) none) Set.univ
            (.op (.enqueueDma (flatRow hino) (.here (outRow hin)) (.dma cc0_scratch1.sem) hs ht hty) k) Q) := by
  unfold Busy Copies
  rw [bigSep_pending_step _ b hb]
  iintro ⟨⟨⟨Hf, Ho⟩, Hrest⟩, HB⟩ Hk
  ihave Hf' := ((pointsTo_split_subset (Finset.subset_univ (flatRow hino).view.set)).1) $$ Hf
  icases Hf' with ⟨Hf, -⟩
  iapply (Transfers.wp_dmaBatch (countersEmb (U := UU)) 𝒱₀ (S0 d h) none (src := flatRow hino) (dst := outRow hin) (via := .same) (Sd := rowSet ⟨b, hb⟩) (fd := f) (fs := flat)
    (q := shareTok fullShare 16 ⟨b, hb⟩) (D := deliv d flat len) (none : HIx 1) NR rfl (set_outRow hb hin).subset hb (Nat.zero_le _) ?hD) $$ [Hf Ho HB]
  case hD =>
    unfold deliv
    iintro ⟨Ho, -⟩
    iapply (Entails.of_eq (pointsTo_congr (row_written d h hb hin len hlen hoff hino flat f)))
    iexact Ho
  · isplitl [Hf]; · iexact Hf
    isplitl [Ho]; · iexact Ho
    iexact HB
  iintro HB
  iapply Hk
  isplitl [Hrest]; · iexact Hrest
  iexact HB

/-- One row of the loop: the length read, the row's bounds established, the copy started. -/
theorem wp_row (hlen : InRange len) {b : ℕ} {hin₁ : ∀ a, (![b] : Fin 1 → ℕ) a + S1.size a ≤ S16.size a}
    {hw : ((smM).access (Rect.unit (s := S16) ![b] S1.size hin₁)).Loads} {x : (Rect.unit (s := S16) ![b] S1.size hin₁).shape.Idx}
    {chk : Elt F .i32 → Prop} {dec : ∀ w, Decidable (chk w)}
    {hin : ∀ a, (![b, 0] : Fin 2 → ℕ) a + S1x1024.size a ≤ S16x1024.size a}
    {off : Elt F .i32 → Fin 2 → ℕ} {hino : ∀ w, PLift (chk w) → ∀ a, off w a + S1x1024.size a ≤ S65536x1024.size a}
    {hs : ∀ w c, (flatRow (hino w c)).view.WordExact} {ht : (outRow hin).view.WordExact}
    {hty : DmaTarget.Typed (nD := nD) (τ := τ) (p := (S0 d h).2) .hbm (.dma cc0_scratch1.sem) (.here (outRow hin))}
    {k : ∀ w : Elt F .i32, PLift (chk w) → Prog (TpuEff nD τ sig (Elt F) Λ₀ (S0 d h).2) PUnit} {Q : PUnit → sProp 𝕄}
    (hb : b < 16) (hoff : ∀ w, off w = ![start b w, 0])
    (hchk : ∀ w, (∀ a, (![start b w, 0] : Fin 2 → ℕ) a + S1x1024.size a ≤ S65536x1024.size a) → chk w) :
    iprop((smLoc d h ↦{fullShare} (len : Buf (Elt F) (smLoc d h))) ∗ Busy d h flat len f b)
      ⊢ iprop((iprop((smLoc d h ↦{fullShare} (len : Buf (Elt F) (smLoc d h))) ∗ Busy d h flat len f (b + 1))
          -∗ wp frame (wpE (defs₀ (F := F)) 𝒱₀ (S0 d h) none) Set.univ (k (len (ix1 ⟨b, hb⟩)) ⟨hchk _ (row_inside hb (hlen _))⟩) Q)
        -∗ wp frame (wpE (defs₀ (F := F)) 𝒱₀ (S0 d h) none) Set.univ
            (smemLoadElt smM (Rect.unit (s := S16) ![b] S1.size hin₁) hw x fun w => .op (.assume (chk w) (dec w)) fun c =>
              .op (.enqueueDma (flatRow (hino w c)) (.here (outRow hin)) (.dma cc0_scratch1.sem) (hs w c) ht hty) fun _ => k w c) Q) := by
  have hc : chk (len (ix1 ⟨b, hb⟩)) := hchk _ (row_inside hb (hlen _))
  iintro ⟨Hs, HB⟩ Hk
  iapply (wp_length d h len hb) $$ Hs
  iintro Hs
  iapply (wp_assume 𝒱₀ (S0 d h) none Set.univ hc)
  iapply (wp_issue d h flat len f hlen hb (hoff _)) $$ HB
  iintro HB
  iapply Hk
  isplitl [Hs] <;> iassumption

/-- What the sequencer holds once all copies are out and `b` of them are waited for; `W` the waits recorded before. -/
def Waited (O : CellTallies nD τ sig (HIx 1)) (W : Waits sig (HIx 1)) (b : ℕ) : sProp 𝕄 :=
  iprop(Transfers.MayWaits (S0 d h) (none : HIx 1) O ∗ Copies d h flat len 16 (b * NR)
    ∗ ∃ W', ⌜∀ p ∈ W', p ∈ W ∨ p.2 = none⌝ ∗ owes (S0 d h) O W')

theorem NR_pos : 0 < NR := View.amount_pos _ (.dma cc0_scratch1.sem) (show 0 < S1x1024.numel by decide)

variable {O : CellTallies nD τ sig (HIx 1)} {W : Waits sig (HIx 1)}

omit [FloatOps F] in
/-- A wait of this kernel's own recorded keeps the list admissible. -/
theorem recorded {sm : SemLoc sig} {W' : Waits sig (HIx 1)} (hW : ∀ p ∈ W', p ∈ W ∨ p.2 = none) :
    ∀ p ∈ insert (sm, (none : HIx 1)) W', p ∈ W ∨ p.2 = none := fun p hp =>
  (Finset.mem_insert.mp hp).elim (fun e => .inr (e ▸ rfl)) (hW p)

/-- All copies out, none waited for. -/
theorem waited_start : iprop(Transfers.MayWaits (S0 d h) (none : HIx 1) O ∗ Busy d h flat len f 16 ∗ owes (S0 d h) O W)
    ⊢ Waited d h flat len O W 0 := by
  unfold Busy Waited
  rw [Nat.zero_mul]
  iintro ⟨Hmw, ⟨-, HB⟩, HO⟩
  isplitl [Hmw]; · iexact Hmw
  isplitl [HB]; · iexact HB
  iexists W; isplitr
  · ipureintro; exact fun p hp => .inl hp
  · iexact HO

/-- A wait that is not the last. -/
theorem wp_wait {b : ℕ} (hb : b + 1 < 16) {hin : ∀ a, (![b, 0] : Fin 2 → ℕ) a + S1x1024.size a ≤ S16x1024.size a}
    {off : Fin 2 → ℕ} {hino : ∀ a, off a + S1x1024.size a ≤ S65536x1024.size a}
    {hs : (flatRow hino).view.WordExact} {ht : (outRow hin).view.WordExact}
    {k : PUnit → Prog (TpuEff nD τ sig (Elt F) Λ₀ (S0 d h).2) PUnit} {Q : PUnit → sProp 𝕄} :
    Waited d h flat len O W b
      ⊢ iprop((Waited d h flat len O W (b + 1) -∗ wp frame (wpE (defs₀ (F := F)) 𝒱₀ (S0 d h) none) Set.univ (k ⟨⟩) Q)
        -∗ wp frame (wpE (defs₀ (F := F)) 𝒱₀ (S0 d h) none) Set.univ
            (.op (.waitDma2 cc0_scratch1.sem (flatRow hino) (outRow hin) hs ht) k) Q) := by
  have hu : b * NR + NR < NR * 16 := by have := NR_pos; nlinarith
  unfold Waited Copies
  iintro ⟨#Hmw, HB, %W', %hW, HO⟩ Hk
  ihave Hm := (Transfers.MayWaits.elim (.dma cc0_scratch1.sem)) $$ Hmw
  iapply (Transfers.wp_waitBatchO (countersEmb (U := UU)) 𝒱₀ (S0 d h) none (srcw := flatRow hino) (dstw := outRow hin) (hsrc := hs) (hdst := ht) (none : HIx 1) (N := NR) rfl hu) $$ [HB HO Hm]
  · isplitl [HB]; · iexact HB
    isplitl [HO] <;> iassumption
  iintro ⟨HB, HO⟩
  iapply Hk
  isplitr; · iexact Hmw
  isplitl [HB]; · rw [Nat.succ_mul]; iexact HB
  iexists (insert (SemLoc.dma cc0_scratch1.sem, (none : HIx 1)) W'); isplitr
  · ipureintro; exact recorded hW
  · iexact HO

/-- The last wait: every row of the result is in, and the copies' counter is at zero again. -/
theorem wp_waitLast {hin : ∀ a, (![15, 0] : Fin 2 → ℕ) a + S1x1024.size a ≤ S16x1024.size a}
    {off : Fin 2 → ℕ} {hino : ∀ a, off a + S1x1024.size a ≤ S65536x1024.size a}
    {hs : (flatRow hino).view.WordExact} {ht : (outRow hin).view.WordExact}
    {k : PUnit → Prog (TpuEff nD τ sig (Elt F) Λ₀ (S0 d h).2) PUnit} {Q : PUnit → sProp 𝕄} :
    Waited d h flat len O W 15
      ⊢ iprop((iprop((outLoc d ↦{fullShare} lastRows (α := Elt F .f32) flat len) ∗ semVal (S0 d h, .dma cc0_scratch1.sem) 0
            ∗ ∃ W', ⌜∀ p ∈ W', p ∈ W ∨ p.2 = none⌝ ∗ owes (S0 d h) O W')
          -∗ wp frame (wpE (defs₀ (F := F)) 𝒱₀ (S0 d h) none) Set.univ (k ⟨⟩) Q)
        -∗ wp frame (wpE (defs₀ (F := F)) 𝒱₀ (S0 d h) none) Set.univ
            (.op (.waitDma2 cc0_scratch1.sem (flatRow hino) (outRow hin) hs ht) k) Q) := by
  have hu : 15 * NR + NR = NR * 16 := by ring
  unfold Waited Copies
  iintro ⟨Hmw, HB, %W', %hW, HO⟩ Hk
  ihave Hm := (Transfers.MayWaits.elim (.dma cc0_scratch1.sem)) $$ Hmw
  iapply (Transfers.wp_waitBatchLastO (countersEmb (U := UU)) 𝒱₀ (S0 d h) none (srcw := flatRow hino) (dstw := outRow hin) (hsrc := hs) (hdst := ht) (none : HIx 1) (N := NR) rfl NR_pos hu) $$ [HB HO Hm]
  · isplitl [HB]; · iexact HB
    isplitl [HO] <;> iassumption
  iintro ⟨HD, Hv, HO⟩
  iapply Hk
  isplitl [HD]; · rw [out_rows]; iexact HD
  isplitl [Hv]; · iexact Hv
  iexists (insert (SemLoc.dma cc0_scratch1.sem, (none : HIx 1)) W'); isplitr
  · ipureintro; exact recorded hW
  · iexact HO

/-- The start: the flat array in sixteen shares, the result in its rows, the copies' counter at zero. -/
theorem busy_start :
    iprop((flatLoc d ↦{fullShare} flat) ∗ (outLoc d ↦{fullShare} f) ∗ semVal (S0 d h, .dma cc0_scratch1.sem) 0)
      ⊢ |={Set.univ}=> Busy d h flat len f 0 := by
  unfold Busy Copies
  rw [pending_zero, out_rows]
  iintro ⟨Hf, Ho, Hv⟩
  ihave Hf' := (Transfers.pointsTo_toks_split fullShare 16) $$ Hf
  icases Hf' with ⟨-, Hf⟩
  imod (Transfers.batch_alloc' (countersEmb (U := UU)) (S0 d h) (none : HIx 1) NR (deliv d flat len)) $$ Hv with HB
  imodintro
  isplitl [Hf Ho]
  · rw [bigSep_sep']
    isplitl [Hf] <;> iassumption
  · iexact HB

omit [FloatOps F] in
/-- The lengths as the sequencer's memref addresses them are the TensorCore's array. -/
theorem pts_len : ((lenM).view.loc (S0 d h) ↦[(lenM).view.set]{fullShare} len : sProp 𝕄) = lenLoc d ↦{fullShare} len := by
  simp only [Memref.view_whole, View.set_whole]

/-- The table of lengths copied into the scalar memory and waited for. -/
theorem wp_table {g : Buf (Elt F) (smLoc d h)} {hs : (lenM).view.WordExact} {ht : (smM).view.WordExact}
    {hty : DmaTarget.Typed (nD := nD) (τ := τ) (p := (S0 d h).2) .hbm (.dma cc0_scoped0.sem) (.here smM)}
    {hs' : (lenM).view.WordExact} {ht' : (smM).view.WordExact}
    {k : Prog (TpuEff nD τ sig (Elt F) Λ₀ (S0 d h).2) PUnit} {Q : PUnit → sProp 𝕄} :
    iprop(Transfers.MayWaits (S0 d h) (none : HIx 1) O ∗ (lenLoc d ↦{fullShare} len) ∗ (smLoc d h ↦{fullShare} g)
        ∗ semVal (S0 d h, .dma cc0_scoped0.sem) 0 ∗ owes (S0 d h) O W)
      ⊢ iprop((iprop((lenLoc d ↦{fullShare} len) ∗ (smLoc d h ↦{fullShare} (len : Buf (Elt F) (smLoc d h)))
            ∗ semVal (S0 d h, .dma cc0_scoped0.sem) 0 ∗ ∃ W', ⌜∀ p ∈ W', p ∈ W ∨ p.2 = none⌝ ∗ owes (S0 d h) O W')
          -∗ wp frame (wpE (defs₀ (F := F)) 𝒱₀ (S0 d h) none) Set.univ k Q)
        -∗ wp frame (wpE (defs₀ (F := F)) 𝒱₀ (S0 d h) none) Set.univ
            (.op (.enqueueDma lenM (.here smM) (.dma cc0_scoped0.sem) hs ht hty) fun _ =>
              .op (.waitDma2 cc0_scoped0.sem lenM smM hs' ht') fun _ => k) Q) := by
  have hval : (smM).view.write (Elt F) g (ReadAs.same.apply ((lenM).view.read (Elt F) len)) Finset.univ = (len : Buf (Elt F) (smLoc d h)) := by
    exact View.write_whole_univ _ _ _
  iintro ⟨Hmw, Hl, Hs, Hc, HO⟩ Hk
  ihave Hm := (Transfers.MayWaits.elim (.dma cc0_scoped0.sem)) $$ Hmw
  ihave Hl' := (Entails.of_eq (pts_len d h len).symm) $$ Hl
  iapply (Transfers.wp_dmaLocal (countersEmb (U := UU)) 𝒱₀ (S0 d h) none (src := lenM) (dst := smM) (via := .same) (fs := len) (fd := g)
    (q := fullShare) (Sd := Finset.univ) (none : HIx 1) _ rfl (View.amount_pos _ _ (show 0 < S16.numel by decide)) (Finset.subset_univ _)) $$ [Hl' Hs Hc]
  · isplitl [Hl']; · iexact Hl'
    isplitl [Hs] <;> iassumption
  iintro HF
  iapply (Transfers.wp_waitLocalO (countersEmb (U := UU)) 𝒱₀ (S0 d h) none (srcw := lenM) (dstw := smM) (hsrc := hs') (hdst := ht') (none : HIx 1) rfl) $$ [HF HO Hm]
  · isplitl [HF]; · iexact HF
    isplitl [HO] <;> iassumption
  rw [hval]
  iintro ⟨⟨Hs, Hl'⟩, Hc, HO⟩
  iapply Hk
  isplitl [Hl']; · iapply (Entails.of_eq (pts_len d h len)); iexact Hl'
  isplitl [Hs]; · iexact Hs
  isplitl [Hc]; · iexact Hc
  iexists (insert (SemLoc.dma cc0_scoped0.sem, (none : HIx 1)) W); isplitr
  · ipureintro; exact recorded fun p hp => .inl hp
  · iexact HO

/-! ## The sequencer's semaphores and buffers -/

abbrev lenCell : GSem nD τ sig := (S0 d h, .dma cc0_scoped0.sem)
abbrev rowCell : GSem nD τ sig := (S0 d h, .dma cc0_scratch1.sem)

/-- The two counters the kernel uses, apart from the sequencer's others. -/
theorem ownSems0_S : ∃ R : sProp 𝕄, (ownSems0 (S0 d h) : sProp 𝕄) = iprop(semVal (lenCell d h) 0 ∗ semVal (rowCell d h) 0 ∗ R) :=
  ⟨_, (SparseCore.bigSep_erase' (i := lenCell d h)
      (mem_ownCells.mpr ⟨rfl, by show (SemLoc.dma cc0_scoped0.sem : SemLoc sig).isScoped .scScalar = true; decide⟩)).trans
    (congrArg (fun R : sProp 𝕄 => iprop(semVal (lenCell d h) 0 ∗ R)) (SparseCore.bigSep_erase' (i := rowCell d h)
      (Finset.mem_erase.mpr ⟨fun e => absurd (congrArg Prod.snd e) (show (SemLoc.dma cc0_scratch1.sem : SemLoc sig) ≠ .dma cc0_scoped0.sem by decide),
        mem_ownCells.mpr ⟨rfl, by show (SemLoc.dma cc0_scratch1.sem : SemLoc sig).isScoped .scScalar = true; decide⟩⟩)))⟩

/-- The table in the scalar memory, apart from the sequencer's other buffers. -/
theorem ownBufs_S : ∃ R : sProp 𝕄, (ownBufs (S0 d h) : sProp 𝕄) = iprop((∃ g : Buf (Elt F) (smLoc d h), smLoc d h ↦{fullShare} g) ∗ R) :=
  ⟨_, SparseCore.bigSep_erase' (i := (S0 d h).2.devRef cc0_scratch0)
    (SparseCore.Cfg.mem_ownRefs_of_owner (p := (S0 d h).2) (b := (S0 d h).2.devRef cc0_scratch0) rfl)⟩

/-! ## The kernel's body -/

def coordsS (c : Fin (grid0.bound 0)) : grid0.Coords := fun | 0 => c | ⟨_ + 1, h⟩ => absurd h (Nat.not_lt.2 (Nat.le_add_left _ _))

omit [FloatOps F] in
/-- What follows a load from scalar memory is the load's continuation. -/
theorem load_bind {κ : Kind} {α β : Type} {p : Proc τ} {sh : Shape} {e : EltTy} {m : Memref sig p.kind .smem sh e} {r : Rect sh} {hw : (m.access r).Loads} {x : r.shape.Idx}
    {k : Elt F e → Prog (TpuEff nD τ sig (Elt F) Λ₀ p) α} {k' : α → Prog (TpuEff nD τ sig (Elt F) Λ₀ p) β} :
    (smemLoadElt m r hw x k >>= k') = smemLoadElt m r hw x fun w => k w >>= k' := rfl

/-- The kernel on the sequencer: the lengths copied in, sixteen rows picked, all of them waited for. -/
theorem body (hlen : InRange len) (hO : ∀ g, O g none = 0) :
    iprop((levAts (K (F := F)).L (K (F := F)).lev : sProp 𝕄) ∗ emp ∗ ((flatLoc d ↦{fullShare} flat) ∗ (lenLoc d ↦{fullShare} len) ∗ ∃ f : Buf (Elt F) (outLoc d), outLoc d ↦{fullShare} f)
        ∗ scopedBufs (S0 d h) ∗ scopedSems0 (S0 d h) ∗ owes (S0 d h) O W)
      ⊢ wp frame (wpE (defs₀ (F := F)) 𝒱₀ (S0 d h) none) Set.univ
          (cc0__last_relevant_sc (coordsS ⟨0, h⟩) flatM (Memref.isWhole_whole _) lenM (Memref.isWhole_whole _) outM (Memref.isWhole_whole _)
            smM (Memref.isWhole_whole _) cc0_scratch1 cc0_scoped0)
          fun _ => iprop(((lenLoc d ↦{fullShare} len) ∗ outLoc d ↦{fullShare} lastRows (α := Elt F .f32) flat len)
            ∗ scopedBufs (S0 d h) ∗ scopedSems0 (S0 d h) ∗ ∃ W', ⌜∀ p ∈ W', p ∈ W ∨ p.2 = none⌝ ∗ owes (S0 d h) O W') := by
  obtain ⟨RS, hRS⟩ := ownSems0_S (F := F) d h
  obtain ⟨RB, hRB⟩ := ownBufs_S (F := F) d h
  iintro ⟨#Hlv, -, ⟨Hf, Hl, %f, Ho⟩, Hsb, Hss, HO⟩
  ihave #Hmw := ((K (F := F)).mayWaits_none (thr := S0 d h) hO) $$ Hlv
  ihave Hss' := (SparseCore.Cfg.scopedSems0_S_elim (Val := Elt F) d ((⟨0, h⟩ : Fin (grid0.bound 0)).castLE hcore0)) $$ Hss
  icases Hss' with ⟨Hown, Hsubs⟩
  ihave Hown' := (Entails.of_eq hRS) $$ Hown
  icases Hown' with ⟨Hc, Hr, Hsems⟩
  ihave Hsb' := (SparseCore.Cfg.scopedBufs_S_elim (Val := Elt F) (facts (F := F)) d ((⟨0, h⟩ : Fin (grid0.bound 0)).castLE hcore0)) $$ Hsb
  icases Hsb' with ⟨Hown, Hsubb⟩
  ihave Hown' := (Entails.of_eq hRB) $$ Hown
  icases Hown' with ⟨⟨%g, Hs⟩, Hbufs⟩
  ihave HB := (busy_start d h flat len f) $$ [Hf Ho Hr]
  · isplitl [Hf]; · iexact Hf
    isplitl [Ho] <;> iassumption
  iapply (fupd_wp _ _ _ _ _)
  imod HB
  imodintro
  simp only [cc0__last_relevant_sc_eq_skeleton]; unfold cc0__last_relevant_sc_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [smemLoad, load_bind, Prog.lift, Prog.bind_op, Prog.bind_ret, Prog.pure_eq_ret]
  iapply (wp_table d h len) $$ [Hl Hs Hc HO]
  · isplitr; · iexact Hmw
    isplitl [Hl]; · iexact Hl
    isplitl [Hs]; · iexact Hs
    isplitl [Hc] <;> iassumption
  iintro ⟨Hl, Hs, Hc, %W₁, %hW₁, HO⟩
  iterate 16
    iapply (wp_row d h flat len f hlen ?hb ?hoff ?hchk) $$ [Hs HB]
    case hb => decide
    case hoff => exact fun _ => rfl
    case hchk => intro _ hin; first | exact ⟨hin, hin⟩ | exact hin
    · isplitl [Hs] <;> iassumption
    iintro ⟨Hs, HB⟩
  ihave HW := (waited_start d h flat len f (O := O) (W := W₁)) $$ [HB HO]
  · isplitr; · iexact Hmw
    isplitl [HB] <;> iassumption
  iterate 15
    iapply (wp_wait d h flat len ?hb) $$ HW
    case hb => decide
    iintro HW
  iapply (wp_waitLast d h flat len) $$ HW
  iintro ⟨Ho, Hr, %W₂, %hW₂, HO⟩
  sl_step
  isplitl [Hl Ho]; · isplitl [Hl] <;> iassumption
  isplitl [Hs Hbufs Hsubb]
  · iapply (SparseCore.Cfg.scopedBufs_S_intro (Val := Elt F) (facts (F := F)) d ((⟨0, h⟩ : Fin (grid0.bound 0)).castLE hcore0))
    isplitl [Hs Hbufs]
    · iapply (Entails.of_eq hRB.symm)
      isplitl [Hs]
      · iexists (len : Buf (Elt F) (smLoc d h)); iexact Hs
      · iexact Hbufs
    · iexact Hsubb
  isplitl [Hc Hr Hsems Hsubs]
  · iapply (SparseCore.Cfg.scopedSems0_S_intro (Val := Elt F) d ((⟨0, h⟩ : Fin (grid0.bound 0)).castLE hcore0))
    isplitl [Hc Hr Hsems]
    · iapply (Entails.of_eq hRS.symm)
      isplitl [Hc]; · iexact Hc
      isplitl [Hr] <;> iassumption
    · iexact Hsubs
  iexists W₂; isplitr
  · ipureintro; exact fun p hp => (hW₂ p hp).elim (hW₁ p) .inr
  · iexact HO

end Run

end Cert.Proof.Body

end
-- ==== Proof.Launch.lean ====
/-
  The whole program's run, for any float values: @main flattens the data, hands the flat array, the lengths and the result
  to the sequencer of SparseCore 0, and receives the lengths unchanged and the result at `lastRows`. `run_main` says so of
  every execution, together with the arguments unchanged and every semaphore at zero at the end — the one run every claim
  of the kernel is read off.
-/
module

public import proofs.«01_k».proof.Proof.Body

@[expose] public section

noncomputable section

namespace Cert.Proof.Launch

open Cert.KernelIdeal Cert.KernelIdeal.Gen Cert.Proof.Rows Cert.Proof.Body

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The data flattened to rows, as @main's first operation leaves it. -/
def flatOf (d : Dev nD) : Buf (Elt F) (flatLoc d) := fun i => shapeCast S65536x1024 (m (argLoc d)) shapeCasts_S16x4096x1024_S65536x1024 i

/-- What the program leaves in its result. -/
def resultOf (d : Dev nD) : Buf (Elt F) (outLoc d) := lastRows (α := Elt F .f32) (flatOf m d) (m (lenLoc d))

/-! ## What the call hands over and back -/

/-- To the sequencer: the flat array, the lengths, the result at anything. -/
def toKernel (d : Dev nD) : sProp 𝕄 :=
  iprop((flatLoc d ↦{fullShare} flatOf m d) ∗ (lenLoc d ↦{fullShare} m (lenLoc d)) ∗ ∃ f : Buf (Elt F) (outLoc d), outLoc d ↦{fullShare} f)

/-- And back: the lengths unchanged, the result at the picked rows. -/
def fromKernel (d : Dev nD) : sProp 𝕄 := iprop((lenLoc d ↦{fullShare} m (lenLoc d)) ∗ outLoc d ↦{fullShare} resultOf m d)

instance toKernel_storable (d : Dev nD) : BI.Storable (upEmb : UEmb _ 𝕄) (toKernel m d) := by unfold toKernel; infer_instance
instance fromKernel_storable (d : Dev nD) : BI.Storable (upEmb : UEmb _ 𝕄) (fromKernel m d) := by unfold fromKernel; infer_instance

def P : (K (F := F)).Pay (nD := nD) (Val := Elt F) (Name := ℕ) (U := UU) where
  st := fun _ d _ => toKernel m d
  dn := fun _ d _ => fromKernel m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The sequencer's obligation -/

theorem defs₀_scalar (c : Fin τ.nSC) :
    defs₀ (F := F) (.scScalar c) 0 ()
      = SparseCore.onCore hcore0 (fun c => cc0__last_relevant_sc (coordsS c) (Memref.whole main_v0_scs) (Memref.isWhole_whole _) (Memref.whole main_arg1_scs) (Memref.isWhole_whole _)
          (Memref.whole main_v1_scs) (Memref.isWhole_whole _) (Memref.whole cc0_scratch0) (Memref.isWhole_whole _) cc0_scratch1 cc0_scoped0) ⟨⟩ c := rfl

omit [FloatOps F] in
/-- The list of recorded waits, weakened to the launch's form. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem scalarObl (hlen : ∀ d, InRange (m (lenLoc d))) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact (body d h (flatOf m d) (m (lenLoc d)) (hlen d) hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev arg' : DevRef τ sig := Proc.devRef .tc (main_arg0 : Ref sig .tc)
abbrev len' : DevRef τ sig := Proc.devRef .tc (main_arg1 : Ref sig .tc)
abbrev flat' : DevRef τ sig := Proc.devRef .tc (main_v0 : Ref sig .tc)
abbrev out' : DevRef τ sig := Proc.devRef .tc (main_v1 : Ref sig .tc)
abbrev opFlat : HloOp τ sig (Elt F) := StableHlo.reshape main_arg0 main_v0 (rfl : (.f32 : EltTy) = .f32) shapeCasts_S16x4096x1024_S65536x1024

/-- The TensorCore's arrays: the two arguments, the flat array, the result. -/
abbrev S4 : Finset (DevRef τ sig) := {arg', len', flat', out'}

omit [FloatOps F] in
theorem held_S4 (d : Dev nD) (W : Valuation τ sig (Elt F)) :
    (held (T d) S4 W : sProp 𝕄)
      = iprop((argLoc d ↦{fullShare} W arg') ∗ (lenLoc d ↦{fullShare} W len') ∗ (flatLoc d ↦{fullShare} W flat') ∗ outLoc d ↦{fullShare} W out') := by
  unfold held S4
  rw [SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S4 (V0 m d) := by
  unfold unscopedBufs
  rw [held_S4, show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]
  rfl

theorem opFlat_bufs : (opFlat (F := F)).bufs ⊆ S4 := show ({arg', flat'} : Finset (DevRef τ sig)) ⊆ S4 by decide

/-- After the flattening: only the flat array has changed. -/
theorem held_flat (d : Dev nD) :
    (held (T d) S4 ((opFlat (F := F)).result (V0 m d)) : sProp 𝕄)
      = iprop((argLoc d ↦{fullShare} m (argLoc d)) ∗ (lenLoc d ↦{fullShare} m (lenLoc d)) ∗ (flatLoc d ↦{fullShare} flatOf m d) ∗ outLoc d ↦{fullShare} m (outLoc d)) := by
  rw [held_S4, (opFlat (F := F)).result_of_not_mem (V0 m d) (b := arg') (show arg' ∉ ({flat'} : Finset (DevRef τ sig)) by decide),
    (opFlat (F := F)).result_of_not_mem (V0 m d) (b := len') (show len' ∉ ({flat'} : Finset (DevRef τ sig)) by decide),
    (opFlat (F := F)).result_of_not_mem (V0 m d) (b := out') (show out' ∉ ({flat'} : Finset (DevRef τ sig)) by decide),
    show (opFlat (F := F)).result (V0 m d) flat' = flatOf m d from StableHlo.reshape_result _ _ _ _ _ _ _]
  rfl

theorem st0_eq (d : Dev nD) : (bigSep Finset.univ fun c : Fin ((K (F := F)).nCore 0) => (P m).st 0 d c) = toKernel m d :=
  bigSep_univ_of_subsingleton (0 : Fin 1)
theorem dn0_eq (d : Dev nD) : (bigSep Finset.univ fun c : Fin ((K (F := F)).nCore 0) => (P m).dn 0 d c) = fromKernel m d :=
  bigSep_univ_of_subsingleton (0 : Fin 1)

/-- What @main leaves the claims: the arguments at their launch contents, the result at the picked rows. -/
abbrev FIN (d : Dev nD) : sProp 𝕄 := iprop((argLoc d ↦{fullShare} m (argLoc d)) ∗ fromKernel m d)

/-- @main on device `d`'s TensorCore: the flattening, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := S4) opFlat_bufs (V := V0 m d)) $$ [Hb Hheld]
  · isplitl [Hb] <;> iassumption
  iintro ⟨Hb, Hheld⟩
  rw [wp_ret]; imodintro
  ihave Hh := (Entails.of_eq (held_flat (F := F) m d)) $$ Hheld
  icases Hh with ⟨Ha, Hl, Hf, Ho⟩
  iapply ((K (F := F)).wp_run (D (F := F)) 𝒱 (EH := EH) (P := P m) κ d 0) $$ [Hst Hl Hf Ho Hb Ha Hts]
  isplitr; · iexact Hctx
  isplitl [Hst]; · iexact Hst
  isplitl [Hl Hf Ho]
  · rw [st0_eq]; unfold toKernel
    isplitl [Hf]; · iexact Hf
    isplitl [Hl]; · iexact Hl
    iexists _; iexact Ho
  iintro ⟨Hst, Hdn⟩
  ihave Hdn' := (Entails.of_eq (dn0_eq m d)) $$ Hdn
  imodintro
  isplitl [Hst]; · iexact Hst
  isplitl [Ha Hdn']
  · isplitl [Ha] <;> iassumption
  isplitl [Hb] <;> iassumption

/-- What the claims read of device `d`'s final state. -/
def fq (d : Dev nD) (s' : Phys nD τ sig (Elt F)) : Prop :=
  s'.mem.mem (outLoc d) = resultOf m d ∧ s'.mem.mem (argLoc d) = m (argLoc d) ∧ s'.mem.mem (lenLoc d) = m (lenLoc d)

omit [FloatOps F] in
/-- An array held whole is what the state's memory holds there. -/
theorem read_whole (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  unfold FIN fromKernel
  iintro ⟨⟨Ha, Hl, Ho⟩, HSI⟩
  ihave H := (read_whole _ _ s') $$ [Ha HSI]
  · isplitl [Ha] <;> iassumption
  icases H with ⟨%ha, HSI⟩
  ihave H := (read_whole _ _ s') $$ [Hl HSI]
  · isplitl [Hl] <;> iassumption
  icases H with ⟨%hl, HSI⟩
  ihave H := (read_whole _ _ s') $$ [Ho HSI]
  · isplitl [Ho] <;> iassumption
  icases H with ⟨%ho, -⟩
  ipureintro; exact ⟨ho, ha, hl⟩

/-! ## The program's run -/

def QC : PUnit × MemSt nD τ sig (Elt F) → Prop := fun r =>
  (∀ c : Dev nD, r.2.mem (outLoc c) = resultOf m c ∧ r.2.mem (argLoc c) = m (argLoc c) ∧ r.2.mem (lenLoc c) = m (lenLoc c)) ∧ r.2.sem = fun _ => 0

theorem run_main [∀ e, Nonempty (Elt F e)] (hlen : ∀ d, InRange (m (lenLoc d))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m hlen)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Launch

end
-- ==== Proof.Picks.lean ====
/-
  What the precondition says and what the reference computes. The precondition, a conjunction of comparisons over the
  sixteen lengths, says that every length lies from 1 to 4096 (`inRange_of_pre`). The reference adds to 4096·b the length
  less one, adds 65536 to a negative sum, looks the row up in the flat array, and puts a fill value in every row whose
  number lies outside the array. With lengths in range no sum is negative and every row number lies inside, so the result is
  row for row what the kernel copies (`taken_eq`). Both facts hold over any element type and are used for each of the
  two runs of the reference.
-/
module

public import proofs.«01_k».proof.Proof.Rows
public import proofs.«01_k».proof.Proof.Gen.ReferenceIdeal
public import proofs.«01_k».proof.Proof.Gen.Pre_lengths
public import Idealize.ShloMosaic.Lib.ReduceAll
public import Idealize.ShloMosaic.Lib.WordCmp
public import Idealize.ShloMosaic.Lib.Routing.Ops

@[expose] public section

noncomputable section

namespace Cert.Proof.Picks

open Idealize.ShloMosaic Idealize.ShloMosaic.ValueIdx
open Cert.Proof.Rows

/-- The precondition read back: every length lies from 1 to 4096. -/
theorem inRange_of_pre {F : FTy → Type} [FloatOps F] (seqs : FVec F Cert.Pre_lengths.S16x4096x1024 .f32) (len : IVec SLen 32)
    (h : Cert.Pre_lengths.fn seqs len = fun _ => 1#1) : InRange len := by
  intro i
  have e := congrFun h default
  dsimp only [Cert.Pre_lengths.fn] at e
  haveI : Subsingleton Cert.Pre_lengths.S_.Idx := ⟨fun a b => funext fun k => k.elim0⟩
  obtain ⟨lo, hi⟩ := IntOp.andi_eq_one.1 (Host.reduce_andi_all _ _ _ _ _ e i)
  have lo' := IntOp.cmpi_sge.1 lo
  have hi' := IntOp.cmpi_sle.1 hi
  change (1#32).toInt ≤ (len i).toInt at lo'
  change (len i).toInt ≤ (4096#32).toInt at hi'
  rw [show (1#32).toInt = 1 from by decide] at lo'
  rw [show (4096#32).toInt = 4096 from by decide] at hi'
  rw [BitVec.toInt_eq_toNat_cond] at lo' hi'
  have := (len i).isLt
  split at lo' <;> omega

/-- A row number as the reference's words compute it. -/
theorem sum_eq {b : ℕ} (w : BitVec 32) :
    IntOp.addi (IntOp.muli (BitVec.ofNat 32 b) 4096#32) (IntOp.subi w 1#32) = BitVec.ofNat 32 (start b w) := by
  unfold start
  rw [BitVec.ofNat_toNat, BitVec.setWidth_eq]
  show BitVec.ofNat 32 b * 4096#32 + (w - 1#32) = BitVec.ofNat 32 (4096 * b) + (w - 1#32)
  rw [BitVec.mul_comm, ← BitVec.ofNat_mul]

section Ref

open Cert.ReferenceIdeal Cert.ReferenceIdeal.Gen

/-- The reference's sixteen row numbers before the look-up: 4096·b plus the length less one. -/
abbrev sums (len : IVec SLen 32) : IVec S16 32 :=
  addi (muli (iotaInDim S16 32 0) (broadcastInDim S16 ![] bcast_S_S16 (constantI S_ 32 4096#32)))
    (subi len (broadcastInDim S16 ![] bcast_S_S16 (constantI S_ 32 1#32)))

/-- The row numbers the look-up uses, a negative one moved up by the number of rows. -/
abbrev wrapped (len : IVec SLen 32) : IVec S16x1 32 :=
  broadcastInDim S16x1 ![0] bcast_S16_S16x1_0
    (select (cmpi .slt (sums len) (broadcastInDim S16 ![] bcast_S_S16 (constantI S_ 32 0#32)))
      (addi (sums len) (broadcastInDim S16 ![] bcast_S_S16 (constantI S_ 32 65536#32))) (sums len))

/-- In range a row number stays what it is. -/
theorem wrapped_eq {len : IVec SLen 32} (h : InRange len) (b : Fin 16) (z : Fin 1) :
    wrapped len (ix2 b z) = BitVec.ofNat 32 (rowOf len b).val := by
  have hs : sums len (ix1 b) = BitVec.ofNat 32 (rowOf len b).val := by
    rw [rowOf_val h]; exact sum_eq _
  have hlt := (rowOf len b).isLt
  have hix : wrapped len (ix2 b z) = Scalar.select (IntOp.cmpi .slt (sums len (ix1 b)) 0#32)
      (IntOp.addi (sums len (ix1 b)) 65536#32) (sums len (ix1 b)) := by
    refine (broadcastInDim_apply _ _ _ _ (ix1 b) fun k => ?_).trans rfl
    obtain rfl : k = 0 := Subsingleton.elim _ _
    rfl
  rw [hix, hs, WordCmp.cmpi_slt_zero, BitVec.toNat_ofNat, decide_eq_false (by omega)]
  rfl

/-- The reference's result is the rows the kernel copies, whatever the fill. -/
theorem taken_eq {α : Type} {len : IVec SLen 32} (h : InRange len) (flat fill : _ → α) :
    select (broadcastInDim S16x1024 ![0] bcast_S16_S16x1024_0
        (Host.reduce IntOp.andi
          (andi (cmpi .sge (wrapped len) (broadcastInDim S16x1 ![] bcast_S_S16x1 (constantI S_ 32 0#32)))
            (cmpi .sle (wrapped len) (broadcastInDim S16x1 ![0, 1] bcast_S1x1_S16x1_0_1
              (broadcastInDim S1x1 ![1] bcast_S1_S1x1_1 (constantI S1 32 65535#32)))))
          (constantI S_ 1 1#1) reducesTo_S16x1_S16_d1 h_S_))
      (Host.gather gather_S65536x1024_S16x1_S16x1024_1_0_n_n_0_1_11024 flat (wrapped len)) fill
      = lastRows flat len := by
  funext i
  obtain ⟨b, c, rfl⟩ : ∃ (b : Fin 16) (c : Fin 1024), i = ix2 b c := ⟨i 0, i 1, eq_ix2 i⟩
  have hmask : ∀ j, Host.reduce IntOp.andi
      (andi (cmpi .sge (wrapped len) (broadcastInDim S16x1 ![] bcast_S_S16x1 (constantI S_ 32 0#32)))
        (cmpi .sle (wrapped len) (broadcastInDim S16x1 ![0, 1] bcast_S1x1_S16x1_0_1
          (broadcastInDim S1x1 ![1] bcast_S1_S1x1_1 (constantI S1 32 65535#32)))))
      (constantI S_ 1 1#1) reducesTo_S16x1_S16_d1 h_S_ j = 1#1 := fun j => by
    refine Host.reduce_andi_one _ _ _ _ _ rfl fun p => ?_
    obtain ⟨r, z, rfl⟩ : ∃ (r : Fin 16) (z : Fin 1), p = ix2 r z := ⟨p 0, p 1, eq_ix2 p⟩
    have hr := (rowOf len r).isLt
    refine IntOp.andi_eq_one.2 ⟨?_, ?_⟩
    · show IntOp.cmpi .sge (wrapped len (ix2 r z)) (BitVec.ofNat 32 0) = 1#1
      rw [wrapped_eq h, WordCmp.cmpi_sge_ofNat (by omega) (by decide)]
      rfl
    · show IntOp.cmpi .sle (wrapped len (ix2 r z)) (BitVec.ofNat 32 65535) = 1#1
      rw [wrapped_eq h, WordCmp.cmpi_sle_ofNat (by omega) (by decide), decide_eq_true (by omega)]
      rfl
  show Scalar.select (Host.reduce IntOp.andi _ _ _ _ _) _ _ = _
  rw [hmask]
  exact Routing.gather_row _ rfl rfl rfl rfl rfl flat (wrapped len) b c (rowOf len b) (wrapped_eq h b 0) (by decide)

end Ref

end Cert.Proof.Picks

end
-- ==== Proof.lean ====
/-
  `Cert.Claim` (proofs.«01_k».proof.Defs). The kernel's run is stated once, over any float values (Proof/Launch.lean,
  `run_main`): it ends with the result buffer holding, for every sequence, the last row that counts, the arguments
  unchanged and every counter at zero. The reference's run is the straight line of its host operations, and with every
  length in range its result is those same rows (Proof/Picks.lean, `taken_eq`). The frames are the runs with the values
  dropped; the two value claims are one statement about a kernel's run and a reference's run (`agree`), read at the
  extended reals and at the bit patterns.
-/
module

public import proofs.«01_k».proof.Defs
public import proofs.«01_k».proof.Proof.Launch
public import proofs.«01_k».proof.Proof.Picks
public import proofs.«01_k».proof.Proof.Gen.Kernel
public import proofs.«01_k».proof.Proof.Gen.ReferenceIdeal.Run
public import proofs.«01_k».proof.Proof.Gen.Reference

@[expose] public section

noncomputable section

namespace Cert.Proof

open Idealize.ShloMosaic Idealize.SL.Sem
open Cert.Proof.Rows Cert.Proof.Body Cert.Proof.Picks Cert.Proof.Launch

/-! ## The frames -/

theorem frame_kernel : Cert.quiescent_Kernel := fun m ρ hpre =>
  (θ_run Cert.KernelIdeal.defs _ _).mono (fun _ h => ⟨fun c => (h.1 c).2, h.2⟩)
    (run_main (F := Bits) m ρ fun d => inRange_of_pre _ _ (hpre d))

theorem frame_kernelIdeal : Cert.quiescent_KernelIdeal := fun m ρ hpre =>
  (θ_run Cert.KernelIdeal.defs _ _).mono (fun _ h => ⟨fun c => (h.1 c).2, h.2⟩)
    (run_main (F := Ideal) m ρ fun d => inRange_of_pre _ _ (hpre d))

section Ref

variable {F : FTy → Type} [FloatOps F]

/-- The reference leaves its arguments alone, and has no counter that could end away from zero. -/
theorem reference_frame (m : (ℓ : Loc Cert.ReferenceIdeal.nD Cert.ReferenceIdeal.τ Cert.ReferenceIdeal.sig) → Buf (Elt F) ℓ)
    (ρ : Dev Cert.ReferenceIdeal.nD → PrngReg) :
    θ_run Cert.ReferenceIdeal.defs (onTc (τ := Cert.ReferenceIdeal.τ) (Cert.ReferenceIdeal.main (F := F))) ⟨m, fun _ => 0, ρ⟩ fun r =>
      (∀ c : Dev Cert.ReferenceIdeal.nD,
        r.2.mem (c.tc.loc Cert.ReferenceIdeal.main_arg0) = m (c.tc.loc Cert.ReferenceIdeal.main_arg0)
          ∧ r.2.mem (c.tc.loc Cert.ReferenceIdeal.main_arg1) = m (c.tc.loc Cert.ReferenceIdeal.main_arg1))
      ∧ r.2.sem = fun _ => 0 :=
  (θ_run Cert.ReferenceIdeal.defs _ _).mono (fun r h => ⟨fun c => (h c).2, sem_eq_zero_of_no_sems (by decide) r.2⟩)
    (Cert.ReferenceIdeal.Value.run m ρ)

/-! ## The values -/

/-- From memories that agree on the arguments, every length in range: the kernel's run and the reference's end with the
    same rows in their results, their arguments unchanged. -/
theorem agree [∀ e, Nonempty (Elt F e)]
    (m : (ℓ : Loc Cert.KernelIdeal.nD Cert.KernelIdeal.τ Cert.KernelIdeal.sig) → Buf (Elt F) ℓ) (ρ : Dev Cert.KernelIdeal.nD → PrngReg)
    (m' : (ℓ : Loc Cert.ReferenceIdeal.nD Cert.ReferenceIdeal.τ Cert.ReferenceIdeal.sig) → Buf (Elt F) ℓ) (ρ' : Dev Cert.ReferenceIdeal.nD → PrngReg)
    (hlen : ∀ d, InRange (m (lenLoc d)))
    (hargs : ∀ c : Dev Cert.KernelIdeal.nD, m' (c.tc.loc Cert.ReferenceIdeal.main_arg0) = m (argLoc c)
      ∧ m' (c.tc.loc Cert.ReferenceIdeal.main_arg1) = m (lenLoc c)) :
    ∃ v : (c : Dev Cert.KernelIdeal.nD) → Buf (Elt F) (outLoc c),
      θ_run Cert.KernelIdeal.defs Cert.KernelIdeal.threads ⟨m, fun _ => 0, ρ⟩ (fun r => ∀ c : Dev Cert.KernelIdeal.nD,
        r.2.mem (outLoc c) = v c ∧ r.2.mem (argLoc c) = m (argLoc c) ∧ r.2.mem (lenLoc c) = m (lenLoc c))
      ∧ θ_run Cert.ReferenceIdeal.defs (onTc (τ := Cert.ReferenceIdeal.τ) (Cert.ReferenceIdeal.main (F := F))) ⟨m', fun _ => 0, ρ'⟩
          (fun r => ∀ c : Dev Cert.ReferenceIdeal.nD, r.2.mem (c.tc.loc Cert.ReferenceIdeal.main_v7) = v c
            ∧ r.2.mem (c.tc.loc Cert.ReferenceIdeal.main_arg0) = m' (c.tc.loc Cert.ReferenceIdeal.main_arg0)
            ∧ r.2.mem (c.tc.loc Cert.ReferenceIdeal.main_arg1) = m' (c.tc.loc Cert.ReferenceIdeal.main_arg1)) := by
  refine ⟨resultOf m, (θ_run Cert.KernelIdeal.defs _ _).mono (fun _ h => h.1) (run_main m ρ hlen), ?_⟩
  refine (θ_run Cert.ReferenceIdeal.defs _ _).mono (fun _ h c => ⟨(h c).1.trans ?_, (h c).2⟩) (Cert.ReferenceIdeal.Value.run m' ρ')
  obtain ⟨e0, e1⟩ := hargs c
  rw [e0, e1]
  exact taken_eq (hlen c) (flatOf m c) _

end Ref

theorem algebraic : Cert.algebraic_KernelIdeal_ReferenceIdeal := fun m ρ m' ρ' hpre hargs =>
  agree (F := Ideal) m ρ m' ρ' (fun d => inRange_of_pre _ _ (hpre d)) hargs

theorem bitexact : Cert.bitexact_Kernel_Reference := fun m ρ m' ρ' hpre hargs =>
  agree (F := Bits) m ρ m' ρ' (fun d => inRange_of_pre _ _ (hpre d)) hargs

theorem claim : Cert.Claim :=
  ⟨Cert.Kernel.Gen.facts, Cert.KernelIdeal.Gen.facts, Cert.ReferenceIdeal.Gen.facts, Cert.Reference.Gen.facts, Cert.Pre_lengths.Gen.facts,
    frame_kernel, frame_kernelIdeal, fun m ρ _ => reference_frame (F := Ideal) m ρ, fun m ρ _ => reference_frame (F := Ideal) m ρ,
    fun m ρ _ => reference_frame (F := Bits) m ρ, trivial, algebraic, bitexact⟩

end Cert.Proof

end
